-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weight_zero_points_fit [hPre_weight_zero_points_fit : Cert.Pre_weight_zero_points_fit.Facts] (m : (ℓ : Loc Cert.KernelIdeal.nD Cert.KernelIdeal.τ Cert.KernelIdeal.sig) → Buf (Elt Ideal) ℓ) : Prop :=
  ∀ c : Dev Cert.KernelIdeal.nD,
    (Cert.Pre_weight_zero_points_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weight_zero_points_fit [hPre_weight_zero_points_fit : Cert.Pre_weight_zero_points_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weight_zero_points_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_weight_zero_points_fit [hKernelIdeal : Cert.KernelIdeal.Facts] [hPre_weight_zero_points_fit : Cert.Pre_weight_zero_points_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weight_zero_points_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_weight_zero_points_fit [hReferenceIdeal : Cert.ReferenceIdeal.Facts] [hPre_weight_zero_points_fit : Cert.Pre_weight_zero_points_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weight_zero_points_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_weight_zero_points_fit [hKernelIdeal : Cert.KernelIdeal.Facts] [hReferenceIdeal : Cert.ReferenceIdeal.Facts] [hPre_weight_zero_points_fit : Cert.Pre_weight_zero_points_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weight_zero_points_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_weight_zero_points_fit : Cert.Pre_weight_zero_points_fit.Facts),
    quiescent_Kernel (hKernel := hKernel)
    ∧ quiescent_KernelIdeal (hKernelIdeal := hKernelIdeal)
    ∧ quiescent_KernelIdeal_pre_weight_zero_points_fit (hKernelIdeal := hKernelIdeal) (hPre_weight_zero_points_fit := hPre_weight_zero_points_fit)
    ∧ quiescent_ReferenceIdeal (hReferenceIdeal := hReferenceIdeal)
    ∧ quiescent_ReferenceIdeal_pre_weight_zero_points_fit (hReferenceIdeal := hReferenceIdeal) (hPre_weight_zero_points_fit := hPre_weight_zero_points_fit)
    ∧ preserves_Kernel_KernelIdeal
    ∧ algebraic_KernelIdeal_ReferenceIdeal_pre_weight_zero_points_fit (hKernelIdeal := hKernelIdeal) (hReferenceIdeal := hReferenceIdeal) (hPre_weight_zero_points_fit := hPre_weight_zero_points_fit)
-- ==== Pre_weight_zero_points_fit.lean ====
abbrev S4x384x1024 : Shape := ⟨3, ![4, 384, 1024]⟩
abbrev S_ : Shape := ⟨0, ![]⟩
abbrev S1024x5632 : Shape := ⟨2, ![1024, 5632]⟩
abbrev S5632 : Shape := ⟨1, ![5632]⟩

class Facts : Prop where
  bcast_S_S5632 : S_.BroadcastsInDim S5632 (![] : Fin 0 → Fin S5632.rank)

variable [Facts]

def fn {F : FTy → Type} [FloatOps F] (main_arg0 : IVec S4x384x1024 8) (main_arg1 : IVec S_ 32) (main_arg2 : IVec S1024x5632 8) (main_arg3 : IVec S5632 32) (main_arg4 : IVec S5632 32) (main_arg5 : IVec S5632 32) (main_arg6 : IVec S5632 32) (main_arg7 : IVec S_ 32) : IVec S5632 1 :=
  let main_c : IVec S_ 32 := constantI S_ 32 4294934783#32
  let main_v0 : IVec S5632 32 := broadcastInDim S5632 ![] bcast_S_S5632 main_c
  let main_v1 : IVec S5632 1 := cmpi .sge main_arg3 main_v0
  let main_c_0 : IVec S_ 32 := constantI S_ 32 32767#32
  let main_v2 : IVec S5632 32 := broadcastInDim S5632 ![] bcast_S_S5632 main_c_0
  let main_v3 : IVec S5632 1 := cmpi .sle main_arg3 main_v2
  let main_v4 : IVec S5632 1 := andi main_v1 main_v3
  main_v4
-- ==== Kernel.lean ====
abbrev S4x384x1024 : Shape := ⟨3, ![4, 384, 1024]⟩
abbrev S_ : Shape := ⟨0, ![]⟩
abbrev S1024x5632 : Shape := ⟨2, ![1024, 5632]⟩
abbrev S5632 : Shape := ⟨1, ![5632]⟩
abbrev S1 : Shape := ⟨1, ![1]⟩
abbrev S1536x1024 : Shape := ⟨2, ![1536, 1024]⟩
abbrev S1x5632 : Shape := ⟨2, ![1, 5632]⟩
abbrev S1536x5632 : Shape := ⟨2, ![1536, 5632]⟩
abbrev S1024x512 : Shape := ⟨2, ![1024, 512]⟩
abbrev S1x512 : Shape := ⟨2, ![1, 512]⟩
abbrev S1536x512 : Shape := ⟨2, ![1536, 512]⟩
abbrev S1552x1024 : Shape := ⟨2, ![1552, 1024]⟩
abbrev S16x1024 : Shape := ⟨2, ![16, 1024]⟩
abbrev S512x512 : Shape := ⟨2, ![512, 512]⟩
abbrev S16x512 : Shape := ⟨2, ![16, 512]⟩
abbrev S128x512 : Shape := ⟨2, ![128, 512]⟩

abbrev nBuf : Space → Nat
  | .hbm => 16
  | .vmem => 15
  | .smem => 2
  | _ => 0

abbrev bufTy : (tb : Table) → Fin (tcTables nBuf tb) → BufTy
  | .hbm, ⟨0, _⟩ => ⟨S4x384x1024, .i8⟩
  | .hbm, ⟨1, _⟩ => ⟨S_, .i32⟩
  | .hbm, ⟨2, _⟩ => ⟨S1024x5632, .i8⟩
  | .hbm, ⟨3, _⟩ => ⟨S5632, .i32⟩
  | .hbm, ⟨4, _⟩ => ⟨S5632, .i32⟩
  | .hbm, ⟨5, _⟩ => ⟨S5632, .i32⟩
  | .hbm, ⟨6, _⟩ => ⟨S5632, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S1536x1024, .i8⟩
  | .hbm, ⟨11, _⟩ => ⟨S1x5632, .i32⟩
  | .hbm, ⟨12, _⟩ => ⟨S1x5632, .i32⟩
  | .hbm, ⟨13, _⟩ => ⟨S1x5632, .i32⟩
  | .hbm, ⟨14, _⟩ => ⟨S1x5632, .i32⟩
  | .hbm, ⟨15, _⟩ => ⟨S1536x5632, .i8⟩
  | .local _ .vmem, ⟨0, _⟩ => ⟨S1536x1024, .i8⟩
  | .local _ .vmem, ⟨1, _⟩ => ⟨S1024x512, .i8⟩
  | .local _ .vmem, ⟨2, _⟩ => ⟨S1024x512, .i8⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S1536x512, .i8⟩
  | .local _ .vmem, ⟨12, _⟩ => ⟨S1536x512, .i8⟩
  | .local _ .vmem, ⟨13, _⟩ => ⟨S1552x1024, .bf16⟩
  | .local _ .vmem, ⟨14, _⟩ => ⟨S1024x512, .bf16⟩
  | .local _ .smem, ⟨0, _⟩ => ⟨S1, .i32⟩
  | .local _ .smem, ⟨1, _⟩ => ⟨S1, .i32⟩
  | _, _ => ⟨S4x384x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32_21 : BitVec 32 := 0#32
  let c12_i32 : BitVec 32 := 12#32
  let v36 : BitVec 32 := Scalar.addi c0_i32_21 c12_i32
  let c1_i32 : BitVec 32 := 1#32
  ⟨c0_i32_21, v36, c1_i32⟩
def k0_mult1 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c128_i32_23 : BitVec 32 := 128#32
  let v37 : BitVec 32 := Scalar.muli arg12 c128_i32_23
  v37
def k0_off1 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32_23 : BitVec 32 := 128#32
  let v37 : BitVec 32 := Scalar.muli arg12 c128_i32_23
  let v38 : BitVec 32 := v37
  let v39 : Index := Scalar.indexCast v38
  let c0_24 : Index := 0#32
  ![v39.toNat, 0]
def k0_off2 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32_23 : BitVec 32 := 128#32
  let v37 : BitVec 32 := Scalar.muli arg12 c128_i32_23
  let v38 : BitVec 32 := v37
  let v42 : Index := Scalar.indexCast v38
  let c512_26 : Index := 512#32
  ![v42.toNat, 512]
def k0_mult2 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c128_i32_46 : BitVec 32 := 128#32
  let v129 : BitVec 32 := Scalar.muli arg12 c128_i32_46
  v129
def k0_off3 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32_46 : BitVec 32 := 128#32
  let v129 : BitVec 32 := Scalar.muli arg12 c128_i32_46
  let v130 : BitVec 32 := v129
  let v131 : Index := Scalar.indexCast v130
  let c0_47 : Index := 0#32
  ![v131.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x384x1024 : Shape := ⟨3, ![4, 384, 1024]⟩
abbrev S_ : Shape := ⟨0, ![]⟩
abbrev S1024x5632 : Shape := ⟨2, ![1024, 5632]⟩
abbrev S5632 : Shape := ⟨1, ![5632]⟩
abbrev S4x384x1024x1 : Shape := ⟨4, ![4, 384, 1024, 1]⟩
abbrev S1x1x1024x5632 : Shape := ⟨4, ![1, 1, 1024, 5632]⟩
abbrev S4x384x1024x5632 : Shape := ⟨4, ![4, 384, 1024, 5632]⟩
abbrev S4x384x5632 : Shape := ⟨3, ![4, 384, 5632]⟩
abbrev S4x384 : Shape := ⟨2, ![4, 384]⟩
abbrev S4x384x1 : Shape := ⟨3, ![4, 384, 1]⟩
abbrev S1x1x5632 : Shape := ⟨3, ![1, 1, 5632]⟩
abbrev S1536x5632 : Shape := ⟨2, ![1536, 5632]⟩

abbrev nBuf : Space → Nat
  | .hbm => 154
  | .vmem => 0
  | .smem => 0
  | _ => 0

abbrev hbmTy0_0 (i : Nat) : BufTy := match i % 128 with
  | 0 => ⟨S4x384x1024, .i8⟩
  | 1 => ⟨S_, .i32⟩
  | 2 => ⟨S1024x5632, .i8⟩
  | 3 => ⟨S5632, .i32⟩
  | 4 => ⟨S5632, .i32⟩
  | 5 => ⟨S5632, .i32⟩
  | 6 => ⟨S5632, .i32⟩
  | 7 => ⟨S_, .i32⟩
  | 8 => ⟨S4x384x1024, .i32⟩
  | 9 => ⟨S1024x5632, .i32⟩
  | 10 => ⟨S4x384x1024x1, .i32⟩
  | 11 => ⟨S1x1x1024x5632, .i32⟩
  | 12 => ⟨S4x384x1024x5632, .i32⟩
  | 13 => ⟨S4x384x1024x5632, .i32⟩
  | 14 => ⟨S4x384x1024x5632, .i32⟩
  | 15 => ⟨S_, .i32⟩
  | 16 => ⟨S4x384x5632, .i32⟩
  | 17 => ⟨S_, .i32⟩
  | 18 => ⟨S4x384, .i32⟩
  | 19 => ⟨S_, .i32⟩
  | 20 => ⟨S5632, .i32⟩
  | 21 => ⟨S_, .i32⟩
  | 22 => ⟨S_, .i32⟩
  | 23 => ⟨S5632, .i32⟩
  | 24 => ⟨S5632, .i32⟩
  | 25 => ⟨S4x384x1, .i32⟩
  | 26 => ⟨S1x1x5632, .i32⟩
  | 27 => ⟨S4x384x5632, .i32⟩
  | 28 => ⟨S4x384x5632, .i32⟩
  | 29 => ⟨S4x384x5632, .i32⟩
  | 30 => ⟨S4x384x5632, .i32⟩
  | 31 => ⟨S5632, .i32⟩
  | 32 => ⟨S5632, .i32⟩
  | 33 => ⟨S1x1x5632, .i32⟩
  | 34 => ⟨S4x384x5632, .i32⟩
  | 35 => ⟨S4x384x5632, .i32⟩
  | 36 => ⟨S1x1x5632, .i32⟩
  | 37 => ⟨S4x384x5632, .i32⟩
  | 38 => ⟨S4x384x5632, .i32⟩
  | 39 => ⟨S1x1x5632, .i32⟩
  | 40 => ⟨S4x384x5632, .i32⟩
  | 41 => ⟨S4x384x5632, .i32⟩
  | 42 => ⟨S_, .i32⟩
  | 43 => ⟨S4x384x5632, .i32⟩
  | 44 => ⟨S4x384x5632, .i1⟩
  | 45 => ⟨S4x384x5632, .i32⟩
  | 46 => ⟨S4x384x5632, .i32⟩
  | 47 => ⟨S5632, .i32⟩
  | 48 => ⟨S_, .i32⟩
  | 49 => ⟨S_, .i32⟩
  | 50 => ⟨S4x384x5632, .i32⟩
  | 51 => ⟨S4x384x5632, .i32⟩
  | 52 => ⟨S4x384x5632, .i32⟩
  | 53 => ⟨S_, .i32⟩
  | 54 => ⟨S4x384x5632, .i32⟩
  | 55 => ⟨S4x384x5632, .i32⟩
  | 56 => ⟨S_, .i32⟩
  | 57 => ⟨S4x384x5632, .i32⟩
  | 58 => ⟨S4x384x5632, .i32⟩
  | 59 => ⟨S_, .i32⟩
  | 60 => ⟨S5632, .i32⟩
  | 61 => ⟨S5632, .i32⟩
  | 62 => ⟨S_, .i32⟩
  | 63 => ⟨S5632, .i32⟩
  | 64 => ⟨S5632, .i32⟩
  | 65 => ⟨S1x1x5632, .i32⟩
  | 66 => ⟨S4x384x5632, .i32⟩
  | 67 => ⟨S4x384x5632, .i32⟩
  | 68 => ⟨S1x1x5632, .i32⟩
  | 69 => ⟨S4x384x5632, .i32⟩
  | 70 => ⟨S4x384x5632, .i32⟩
  | 71 => ⟨S1x1x5632, .i32⟩
  | 72 => ⟨S4x384x5632, .i32⟩
  | 73 => ⟨S4x384x5632, .i32⟩
  | 74 => ⟨S4x384x5632, .i32⟩
  | 75 => ⟨S1x1x5632, .i32⟩
  | 76 => ⟨S4x384x5632, .i32⟩
  | 77 => ⟨S4x384x5632, .i32⟩
  | 78 => ⟨S_, .i32⟩
  | 79 => ⟨S4x384x5632, .i32⟩
  | 80 => ⟨S4x384x5632, .i32⟩
  | 81 => ⟨S_, .i32⟩
  | 82 => ⟨S4x384x5632, .i32⟩
  | 83 => ⟨S4x384x5632, .i32⟩
  | 84 => ⟨S4x384x5632, .i32⟩
  | 85 => ⟨S_, .i32⟩
  | 86 => ⟨S4x384x5632, .i32⟩
  | 87 => ⟨S4x384x5632, .i32⟩
  | 88 => ⟨S_, .i32⟩
  | 89 => ⟨S4x384x5632, .i32⟩
  | 90 => ⟨S4x384x5632, .i32⟩
  | 91 => ⟨S_, .i32⟩
  | 92 => ⟨S4x384x5632, .i32⟩
  | 93 => ⟨S4x384x5632, .i32⟩
  | 94 => ⟨S4x384x5632, .i32⟩
  | 95 => ⟨S_, .i32⟩
  | 96 => ⟨S4x384x5632, .i32⟩
  | 97 => ⟨S4x384x5632, .i32⟩
  | 98 => ⟨S4x384x5632, .i32⟩
  | 99 => ⟨S_, .i32⟩
  | 100 => ⟨S4x384x5632, .i32⟩
  | 101 => ⟨S4x384x5632, .i32⟩
  | 102 => ⟨S4x384x5632, .i32⟩
  | 103 => ⟨S4x384x5632, .i32⟩
  | 104 => ⟨S4x384x5632, .i1⟩
  | 105 => ⟨S4x384x5632, .i32⟩
  | 106 => ⟨S4x384x5632, .i32⟩
  | 107 => ⟨S_, .i32⟩
  | 108 => ⟨S4x384x5632, .i32⟩
  | 109 => ⟨S4x384x5632, .i32⟩
  | 110 => ⟨S_, .i32⟩
  | 111 => ⟨S4x384x5632, .i32⟩
  | 112 => ⟨S4x384x5632, .i32⟩
  | 113 => ⟨S4x384x5632, .i32⟩
  | 114 => ⟨S4x384x5632, .i32⟩
  | 115 => ⟨S4x384x5632, .i32⟩
  | 116 => ⟨S4x384x5632, .i32⟩
  | 117 => ⟨S_, .i32⟩
  | 118 => ⟨S5632, .i32⟩
  | 119 => ⟨S5632, .i32⟩
  | 120 => ⟨S_, .i32⟩
  | 121 => ⟨S5632, .i32⟩
  | 122 => ⟨S5632, .i32⟩
  | 123 => ⟨S1x1x5632, .i32⟩
  | 124 => ⟨S4x384x5632, .i32⟩
  | 125 => ⟨S4x384x5632, .i32⟩
  | 126 => ⟨S_, .i32⟩
  | 127 => ⟨S5632, .i32⟩
  | _ => ⟨S4x384x1024, .i8⟩

abbrev hbmTy0_1 (i : Nat) : BufTy := match i % 128 with
  | 0 => ⟨S5632, .i32⟩
  | 1 => ⟨S_, .i32⟩
  | 2 => ⟨S4x384x5632, .i32⟩
  | 3 => ⟨S4x384x5632, .i1⟩
  | 4 => ⟨S4x384x5632, .i32⟩
  | 5 => ⟨S1x1x5632, .i32⟩
  | 6 => ⟨S4x384x5632, .i32⟩
  | 7 => ⟨S4x384x5632, .i32⟩
  | 8 => ⟨S1x1x5632, .i32⟩
  | 9 => ⟨S4x384x5632, .i32⟩
  | 10 => ⟨S4x384x5632, .i32⟩
  | 11 => ⟨S4x384x5632, .i1⟩
  | 12 => ⟨S4x384x5632, .i32⟩
  | 13 => ⟨S4x384x5632, .i32⟩
  | 14 => ⟨S4x384x5632, .i32⟩
  | 15 => ⟨S4x384x5632, .i32⟩
  | 16 => ⟨S_, .i32⟩
  | 17 => ⟨S_, .i32⟩
  | 18 => ⟨S_, .i32⟩
  | 19 => ⟨S4x384x5632, .i32⟩
  | 20 => ⟨S4x384x5632, .i32⟩
  | 21 => ⟨S_, .i32⟩
  | 22 => ⟨S4x384x5632, .i32⟩
  | 23 => ⟨S4x384x5632, .i32⟩
  | 24 => ⟨S4x384x5632, .i8⟩
  | 25 => ⟨S1536x5632, .i8⟩
  | _ => ⟨S4x384x1024, .i8⟩

abbrev hbmTy (i : Nat) : BufTy := match i / 128 with
  | 0 => hbmTy0_0 i
  | 1 => hbmTy0_1 i
  | _ => ⟨S4x384x1024, .i8⟩

abbrev bufTy : (tb : Table) → Fin (tcTables nBuf tb) → BufTy
  | .hbm, ⟨i, _⟩ => hbmTy i
  | _, _ => ⟨S4x384x1024, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_19 : Ref sig .tc := ⟨.hbm, 117, rfl⟩
abbrev main_v87 : Ref sig .tc := ⟨.hbm, 118, rfl⟩
abbrev main_v88 : Ref sig .tc := ⟨.hbm, 119, rfl⟩
abbrev main_c_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_21 : Ref sig .tc := ⟨.hbm, 126, rfl⟩
abbrev main_v94 : Ref sig .tc := ⟨.hbm, 127, rfl⟩
abbrev main_v95 : Ref sig .tc := ⟨.hbm, 128, rfl⟩
abbrev main_c_22 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_23 : Ref sig .tc := ⟨.hbm, 144, rfl⟩
abbrev main_c_24 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩

abbrev nD : Nat := 1
abbrev τ : Topo := Topo.v7x

variable {F : FTy → Type} [FloatOps F]
-- ==== Proof.Requant.lean ====
/- The requantisation of one 32-bit accumulator: the kernel's scalar formula and the reference's compute the same byte. -/
module

public import Idealize.ShloMosaic.Lib.Pointwise

@[expose] public section

open Idealize.ShloMosaic

namespace Gemm

/-- A left shift of a 32-bit lane is the host's left shift. -/
theorem shli_host (x y : BitVec 32) : IntOp.shli .vector x y = IntOp.shli .host x y := rfl

/-- A logical right shift of a 32-bit lane is the host's. -/
theorem shrui_host (x y : BitVec 32) : IntOp.shrui .vector x y = IntOp.shrui .host x y := rfl

/-- An arithmetic right shift of a 32-bit lane is the host's. -/
theorem shrsi_host (x y : BitVec 32) : IntOp.shrsi .vector x y = IntOp.shrsi .host x y := rfl

/-- "The word where it is nonnegative, its negative elsewhere" is the absolute value. -/
theorem select_neg (x : BitVec 32) :
    Scalar.select (IntOp.cmpi .sge x 0#32) x (IntOp.subi 0#32 x) = IntOp.absi x := by
  have h : IntOp.cmpi .sge x 0#32 = BitVec.ofBool (!x.msb) := by
    show BitVec.ofBool (BitVec.sle 0#32 x) = _
    rw [BitVec.sle_eq_not_slt, BitVec.slt_zero_eq_msb]
  rw [h]
  unfold IntOp.absi IntOp.subi
  rw [BitVec.zero_sub]
  cases x.msb <;> rfl

/-- Shifting left by 16 keeps only the low half of a 32-bit word. -/
theorem shl16_low (t : BitVec 32) :
    IntOp.shli .host (IntOp.andi t 65535#32) 16#32 = IntOp.shli .host t 16#32 := by
  show (t &&& 65535#32) <<< (16#32) = t <<< (16#32)
  apply BitVec.eq_of_toNat_eq
  simp only [BitVec.shiftLeft_eq', BitVec.toNat_shiftLeft, BitVec.toNat_and, BitVec.toNat_ofNat]
  have : t.toNat &&& (65535 % 2 ^ 32) = t.toNat % 2 ^ 16 := Nat.and_two_pow_sub_one_eq_mod t.toNat 16
  rw [this]
  simp only [Nat.shiftLeft_eq]
  show t.toNat % 2 ^ 16 * 2 ^ 16 % 2 ^ 32 = t.toNat * 2 ^ 16 % 2 ^ 32
  omega

/-- Adding a carry bit by a choice is adding the bit. -/
theorem select_carry (c : BitVec 1) (h : BitVec 32) :
    Scalar.select c (IntOp.addi h 1#32) h = IntOp.addi h (c.setWidth 32) := by
  obtain rfl | rfl := BitVec.eq_zero_or_eq_one c
  · show h = h + 0#32
    rw [BitVec.add_zero]
  · rfl

/-- Zero minus a word is its negative. -/
theorem zero_subi (r : BitVec 32) : IntOp.subi 0#32 r = -r := BitVec.zero_sub r

/-- The signed maximum does not depend on the order of its operands. -/
theorem maxsi_comm (x y : BitVec 32) : IntOp.maxsi x y = IntOp.maxsi y x := by
  simp only [IntOp.maxsi, BitVec.slt_iff_toInt_lt]
  split <;> split
  · omega
  · rfl
  · rfl
  · exact BitVec.eq_of_toInt_eq (by omega)

/-- The signed minimum does not depend on the order of its operands. -/
theorem minsi_comm (x y : BitVec 32) : IntOp.minsi x y = IntOp.minsi y x := by
  simp only [IntOp.minsi, BitVec.slt_iff_toInt_lt]
  split <;> split
  · omega
  · rfl
  · rfl
  · exact BitVec.eq_of_toInt_eq (by omega)

/-- The kernel's high word: bits 31 to 62 of `u · m₀ + c`, by 16-bit limbs, the carry out of the low word by a choice. -/
def highK (u m₀ c : BitVec 32) : BitVec 32 :=
  let a1 := IntOp.shrui .vector u 16#32
  let a0 := IntOp.andi u 65535#32
  let b1 := IntOp.shrui .vector m₀ 16#32
  let b0 := IntOp.andi m₀ 65535#32
  let lo := IntOp.muli a0 b0
  let mid := IntOp.addi (IntOp.muli a1 b0) (IntOp.muli a0 b1)
  let t := IntOp.addi (IntOp.shrui .vector lo 16#32) (IntOp.andi mid 65535#32)
  let low := IntOp.ori (IntOp.shli .vector t 16#32) (IntOp.andi lo 65535#32)
  let high := IntOp.addi (IntOp.addi (IntOp.muli a1 b1) (IntOp.shrui .vector mid 16#32)) (IntOp.shrui .vector t 16#32)
  let low2 := IntOp.addi low c
  IntOp.ori (IntOp.shli .vector (Scalar.select (IntOp.cmpi .ult low2 low) (IntOp.addi high 1#32) high) 1#32)
    (IntOp.shrui .vector low2 31#32)

/-- The reference's high word: the same bits, the carry added as a number. -/
def high (u m₀ c : BitVec 32) : BitVec 32 :=
  let a1 := IntOp.shrui .host u 16#32
  let a0 := IntOp.andi u 65535#32
  let b1 := IntOp.shrui .host m₀ 16#32
  let b0 := IntOp.andi m₀ 65535#32
  let lo := IntOp.muli a0 b0
  let mid := IntOp.addi (IntOp.muli a1 b0) (IntOp.muli a0 b1)
  let t := IntOp.addi (IntOp.shrui .host lo 16#32) (IntOp.andi mid 65535#32)
  let low := IntOp.ori (IntOp.shli .host (IntOp.andi t 65535#32) 16#32) (IntOp.andi lo 65535#32)
  let high := IntOp.addi (IntOp.addi (IntOp.muli a1 b1) (IntOp.shrui .host mid 16#32)) (IntOp.shrui .host t 16#32)
  let low2 := IntOp.addi low c
  IntOp.ori (IntOp.shli .host (IntOp.addi high ((IntOp.cmpi .ult low2 low).setWidth 32)) 1#32)
    (IntOp.shrui .host low2 31#32)

/-- The two high words agree. -/
theorem highK_eq (u m₀ c : BitVec 32) : highK u m₀ c = high u m₀ c := by
  simp only [highK, high, select_carry, shl16_low, shli_host, shrui_host]

/-- The kernel's byte for an accumulator, a multiplier, a shift and an output zero point. -/
def requantK (acc m₀ s zc : BitVec 32) : BitVec 8 :=
  let r := highK (Scalar.select (IntOp.cmpi .sge acc 0#32) acc (IntOp.subi 0#32 acc)) m₀
    (Scalar.select (IntOp.cmpi .sge acc 0#32) 1073741824#32 1073741823#32)
  let q := Scalar.select (IntOp.cmpi .sge acc 0#32) r (IntOp.subi 0#32 r)
  let mask := IntOp.subi (IntOp.shli .vector 1#32 s) 1#32
  let thr := IntOp.addi (IntOp.shrsi .vector mask 1#32) ((IntOp.cmpi .slt q 0#32).setWidth 32)
  let d := IntOp.addi (IntOp.shrsi .vector q s) ((IntOp.cmpi .sgt (IntOp.andi q mask) thr).setWidth 32)
  (IntOp.minsi (IntOp.maxsi (IntOp.addi d zc) 0#32) 255#32).setWidth 8

/-- The reference's byte for an accumulator, a multiplier, a shift and an output zero point. -/
def requant (acc m₀ s zc : BitVec 32) : BitVec 8 :=
  let r := high (IntOp.absi acc) m₀
    (Scalar.select (IntOp.cmpi .sge acc 0#32) 1073741824#32 1073741823#32)
  let q := Scalar.select (IntOp.cmpi .sge acc 0#32) r (-r)
  let mask := IntOp.subi (IntOp.shli .host 1#32 s) 1#32
  let thr := IntOp.addi (IntOp.shrsi .host mask 1#32) ((IntOp.cmpi .slt q 0#32).setWidth 32)
  let d := IntOp.addi (IntOp.shrsi .host q s) ((IntOp.cmpi .sgt (IntOp.andi q mask) thr).setWidth 32)
  (IntOp.minsi 255#32 (IntOp.maxsi 0#32 (IntOp.addi d zc))).setWidth 8

/-- The kernel's byte is the reference's. -/
theorem requantK_eq (acc m₀ s zc : BitVec 32) : requantK acc m₀ s zc = requant acc m₀ s zc := by
  simp only [requantK, requant, highK_eq, select_neg, shli_host, shrsi_host]
  simp only [zero_subi]
  rw [minsi_comm, maxsi_comm]

end Gemm
-- ==== Proof.Acc.lean ====
/- The 32-bit accumulator of one result element. The kernel sums two runs of 512 centred products in floating point and
   converts each sum to int32; the reference sums 1024 products of the raw bytes in int32 and corrects for the zero points.
   Where the weight zero point lies in [-32513, 32767] no run leaves the int32 range, and the two accumulators are equal. -/
module

public import Idealize.ShloMosaic.Lib.Pointwise
public import Mathlib.Data.BitVec
public import Mathlib.Tactic.Ring
public import Mathlib.Tactic.Linarith

@[expose] public section

open Idealize.ShloMosaic

namespace Gemm

/-- An integer of the int32 range converts to its own word. -/
theorem fptosi_int (z : ℤ) (h : -2147483648 ≤ z) (h' : z ≤ 2147483647) :
    Ideal.fptosi 32 (((z : ℤ) : ℝ) : EReal) = BitVec.ofInt 32 z := by
  unfold Ideal.fptosi
  have : Ideal.toIntClamped (-(2 ^ (32 - 1) : Nat)) ((2 ^ (32 - 1) : Nat) - 1) (((z : ℤ) : ℝ) : EReal)
      = max (-2147483648) (min 2147483647 z) := by
    show max _ (min _ (if (0 : ℝ) ≤ (z : ℝ) then ⌊(z : ℝ)⌋ else ⌈(z : ℝ)⌉)) = _
    rw [Int.floor_intCast, Int.ceil_intCast, ite_self]
    norm_num
  rw [this, min_eq_right h', max_eq_right h]

/-- The word of an integer is the integer's image in the ring of 32-bit words. -/
theorem ofInt_cast (z : ℤ) : BitVec.ofInt 32 z = (z : BitVec 32) := by
  apply BitVec.eq_of_toInt_eq
  rw [BitVec.toInt_ofInt, BitVec.toInt_intCast]

/-- A byte widened to 32 bits is its number's image. -/
theorem setWidth_cast (x : BitVec 8) : x.setWidth 32 = ((x.toNat : ℤ) : BitVec 32) := by
  rw [← ofInt_cast]
  apply BitVec.eq_of_toNat_eq
  have := x.isLt
  simp only [BitVec.toNat_setWidth, BitVec.toNat_ofInt]
  omega

/-- A 32-bit word is its signed number's image. -/
theorem self_cast (x : BitVec 32) : x = ((x.toInt : ℤ) : BitVec 32) := by
  rw [← ofInt_cast, BitVec.ofInt_toInt]

/-- The bf16 pattern `0x4300` is 128. -/
theorem ofBits_128 : Ideal.ofBits .bf16 17152#16 = (((128 : ℤ) : ℝ) : EReal) := by
  have h : Ideal.ofBits .bf16 17152#16 = ((128 : ℝ) : EReal) := by
    simp [Ideal.ofBits, Ideal.ieee]
  rw [h]; norm_num

/-- One centred product, as an integer. -/
def term (x w : BitVec 8) (zb : BitVec 32) : ℤ := ((x.toNat : ℤ) - 128) * ((w.toNat : ℤ) - zb.toInt)

/-- One centred weight, as an integer. -/
def wterm (w : BitVec 8) (zb : BitVec 32) : ℤ := (w.toNat : ℤ) - zb.toInt

/-- A sum of integers over the extended reals is the integer sum. -/
theorem coe_sum {n : ℕ} (f : Fin n → ℤ) : (∑ k, (((f k : ℤ) : ℝ) : EReal)) = (((∑ k, f k : ℤ) : ℝ) : EReal) := by
  rw [Int.cast_sum]
  exact (map_sum (⟨⟨(fun r : ℝ => (r : EReal)), EReal.coe_zero⟩, EReal.coe_add⟩ : ℝ →+ EReal) (fun k => ((f k : ℤ) : ℝ)) Finset.univ).symm

/-- A sum of terms of a range is in the range times the number of terms. -/
theorem sum_bounds {n : ℕ} (f : Fin n → ℤ) (lo hi : ℤ) (h : ∀ k, lo ≤ f k ∧ f k ≤ hi) :
    n * lo ≤ ∑ k, f k ∧ ∑ k, f k ≤ n * hi := by
  constructor
  · have := Finset.card_nsmul_le_sum Finset.univ f lo (fun k _ => (h k).1)
    simpa using this
  · have := Finset.sum_le_card_nsmul Finset.univ f hi (fun k _ => (h k).2)
    simpa using this

/-- The range of one centred product under the bound on the zero point. -/
theorem term_bounds (x w : BitVec 8) (zb : BitVec 32) (h : -32513 ≤ zb.toInt) (h' : zb.toInt ≤ 32767) :
    -4194304 ≤ term x w zb ∧ term x w zb ≤ 4194176 := by
  unfold term
  have hx := x.isLt
  have hw := w.isLt
  have a0 : -128 ≤ (x.toNat : ℤ) - 128 := by omega
  have a1 : (x.toNat : ℤ) - 128 ≤ 127 := by omega
  have b0 : -32767 ≤ (w.toNat : ℤ) - zb.toInt := by omega
  have b1 : (w.toNat : ℤ) - zb.toInt ≤ 32768 := by omega
  generalize (x.toNat : ℤ) - 128 = a at *
  generalize (w.toNat : ℤ) - zb.toInt = b at *
  constructor <;> nlinarith

/-- The range of one centred weight. -/
theorem wterm_bounds (w : BitVec 8) (zb : BitVec 32) (h : -32513 ≤ zb.toInt) (h' : zb.toInt ≤ 32767) :
    -32767 ≤ wterm w zb ∧ wterm w zb ≤ 32768 := by
  unfold wterm
  have hw := w.isLt
  omega

/-- The exact extended real of a byte. -/
def byteE (x : BitVec 8) : EReal := ((x.toNat : ℝ) : EReal)

/-- The exact extended real of a signed word. -/
def wordE (x : BitVec 32) : EReal := ((x.toInt : ℝ) : EReal)

/-- A centred product over the extended reals is the integer one. -/
theorem term_coe (x w : BitVec 8) (zb : BitVec 32) :
    (byteE x - Ideal.ofBits .bf16 17152#16) * (byteE w - wordE zb) = (((term x w zb : ℤ) : ℝ) : EReal) := by
  rw [ofBits_128, byteE, byteE, wordE, ← EReal.coe_sub, ← EReal.coe_sub, ← EReal.coe_mul]
  norm_num [term]

/-- A centred weight times one over the extended reals is the integer one. -/
theorem wterm_coe (w : BitVec 8) (zb : BitVec 32) :
    (1 : EReal) * (byteE w - wordE zb) = (((wterm w zb : ℤ) : ℝ) : EReal) := by
  rw [one_mul, byteE, wordE, ← EReal.coe_sub]
  norm_num [wterm]

/-- A run of 512 centred products converts to the word of its integer sum. -/
theorem dot_word (x w : Fin 512 → BitVec 8) (zb : BitVec 32) (h : -32513 ≤ zb.toInt) (h' : zb.toInt ≤ 32767) :
    Ideal.fptosi 32 (∑ k, (byteE (x k) - Ideal.ofBits .bf16 17152#16) * (byteE (w k) - wordE zb))
      = ((∑ k, term (x k) (w k) zb : ℤ) : BitVec 32) := by
  simp only [term_coe]
  rw [coe_sum, ← ofInt_cast]
  have := sum_bounds (fun k => term (x k) (w k) zb) _ _ (fun k => term_bounds (x k) (w k) zb h h')
  exact fptosi_int _ (by omega) (by omega)

/-- A run of 512 centred weights converts to the word of its integer sum. -/
theorem col_word (w : Fin 512 → BitVec 8) (zb : BitVec 32) (h : -32513 ≤ zb.toInt) (h' : zb.toInt ≤ 32767) :
    Ideal.fptosi 32 (∑ k, (1 : EReal) * (byteE (w k) - wordE zb)) = ((∑ k, wterm (w k) zb : ℤ) : BitVec 32) := by
  simp only [wterm_coe]
  rw [coe_sum, ← ofInt_cast]
  have := sum_bounds (fun k => wterm (w k) zb) _ _ (fun k => wterm_bounds (w k) zb h h')
  exact fptosi_int _ (by omega) (by omega)

/-- The lower half of 1024 positions. -/
def loI (k : Fin 512) : Fin 1024 := ⟨k.1, by omega⟩

/-- The upper half of 1024 positions. -/
def hiI (k : Fin 512) : Fin 1024 := ⟨512 + k.1, by omega⟩

/-- A sum over 1024 positions is the sum over its two halves. -/
theorem sum_halves {M : Type} [AddCommMonoid M] (f : Fin 1024 → M) :
    ∑ k, f k = ∑ k, f (loI k) + ∑ k, f (hiI k) := Fin.sum_univ_add (a := 512) (b := 512) f

/-- The kernel's accumulator: two converted runs of centred products, and the column's constant. -/
noncomputable def accK (x w : Fin 1024 → BitVec 8) (za zb bias : BitVec 32) : BitVec 32 :=
  IntOp.addi
    (IntOp.addi
      (Ideal.fptosi 32 (∑ k, (byteE (x (loI k)) - Ideal.ofBits .bf16 17152#16) * (byteE (w (loI k)) - wordE zb)))
      (Ideal.fptosi 32 (∑ k, (byteE (x (hiI k)) - Ideal.ofBits .bf16 17152#16) * (byteE (w (hiI k)) - wordE zb))))
    (IntOp.addi bias
      (IntOp.muli (IntOp.subi 128#32 za)
        (IntOp.addi
          (Ideal.fptosi 32 (∑ k, (1 : EReal) * (byteE (w (loI k)) - wordE zb)))
          (Ideal.fptosi 32 (∑ k, (1 : EReal) * (byteE (w (hiI k)) - wordE zb))))))

/-- The reference's accumulator: int32 sums of the raw bytes and of their products, corrected for the zero points. -/
def acc (x w : Fin 1024 → BitVec 8) (za zb bias : BitVec 32) : BitVec 32 :=
  (∑ k, (x k).setWidth 32 * (w k).setWidth 32) - zb * (∑ k, (x k).setWidth 32) - za * (∑ k, (w k).setWidth 32)
    + 1024#32 * za * zb + bias

/-- The two ways of correcting for the zero points, in any commutative ring: `c` is 128 and `n` is 1024. -/
theorem ring_step {R : Type} [CommRing R] (D X W Z a b c n : R) :
    (D - Z * X - c * W + c * n * Z) + (b + (c - a) * (W - n * Z)) = D - Z * X - a * W + n * a * Z + b := by
  ring

/-- The kernel's accumulator is the reference's. -/
theorem accK_eq (x w : Fin 1024 → BitVec 8) (za zb bias : BitVec 32) (h : -32513 ≤ zb.toInt) (h' : zb.toInt ≤ 32767) :
    accK x w za zb bias = acc x w za zb bias := by
  unfold accK acc
  rw [dot_word (fun k => x (loI k)) (fun k => w (loI k)) zb h h', dot_word (fun k => x (hiI k)) (fun k => w (hiI k)) zb h h',
    col_word (fun k => w (loI k)) zb h h', col_word (fun k => w (hiI k)) zb h h']
  have hd := sum_halves fun k => term (x k) (w k) zb
  have hw := sum_halves fun k => wterm (w k) zb
  have ed : ∑ k, term (x k) (w k) zb = ∑ k, (x k).toNat * (w k).toNat - zb.toInt * ∑ k, ((x k).toNat : ℤ)
      - 128 * ∑ k, ((w k).toNat : ℤ) + 128 * 1024 * zb.toInt := by
    simp only [term, Finset.mul_sum, sub_mul, mul_sub, Finset.sum_sub_distrib, Nat.cast_sum, Nat.cast_mul]
    simp only [Finset.sum_const, Finset.card_univ, Fintype.card_fin]
    simp only [← Finset.mul_sum, ← Finset.sum_mul]
    ring
  have ew : ∑ k, wterm (w k) zb = ∑ k, ((w k).toNat : ℤ) - 1024 * zb.toInt := by
    simp only [wterm, Finset.sum_sub_distrib, Finset.sum_const, Finset.card_univ, Fintype.card_fin]
    ring
  have ex : ∑ k, (x k).setWidth 32 = ((∑ k, ((x k).toNat : ℤ) : ℤ) : BitVec 32) := by
    rw [Int.cast_sum]; exact Finset.sum_congr rfl fun k _ => setWidth_cast _
  have ey : ∑ k, (w k).setWidth 32 = ((∑ k, ((w k).toNat : ℤ) : ℤ) : BitVec 32) := by
    rw [Int.cast_sum]; exact Finset.sum_congr rfl fun k _ => setWidth_cast _
  have exy : ∑ k, (x k).setWidth 32 * (w k).setWidth 32 = ((∑ k, (x k).toNat * (w k).toNat : ℤ) : BitVec 32) := by
    rw [Int.cast_sum]
    refine Finset.sum_congr rfl fun k _ => ?_
    rw [setWidth_cast, setWidth_cast, Int.cast_mul]
  have hz := self_cast zb
  rw [ex, ey, exy]
  have e1 : ((∑ k, term (x (loI k)) (w (loI k)) zb : ℤ) : BitVec 32) + ((∑ k, term (x (hiI k)) (w (hiI k)) zb : ℤ) : BitVec 32)
      = ((∑ k, term (x k) (w k) zb : ℤ) : BitVec 32) := by rw [hd, Int.cast_add]
  have e2 : ((∑ k, wterm (w (loI k)) zb : ℤ) : BitVec 32) + ((∑ k, wterm (w (hiI k)) zb : ℤ) : BitVec 32)
      = ((∑ k, wterm (w k) zb : ℤ) : BitVec 32) := by rw [hw, Int.cast_add]
  unfold IntOp.addi IntOp.muli IntOp.subi
  rw [e1, e2, ed, ew]
  have c1 : ((128 : ℤ) : BitVec 32) = 128#32 := by rw [← ofInt_cast]; rfl
  have c2 : ((1024 : ℤ) : BitVec 32) = 1024#32 := by rw [← ofInt_cast]; rfl
  simp only [Int.cast_add, Int.cast_sub, Int.cast_mul, Nat.cast_sum, Nat.cast_mul, c1, c2, ← hz]
  generalize (128#32 : BitVec 32) = c
  generalize (1024#32 : BitVec 32) = n
  exact ring_step _ _ _ _ _ _ _ _

end Gemm
-- ==== Proof.KernelBlock.lean ====
/- What the kernel's loop over row tiles leaves in the result block: at every row and column, the requantised accumulator of
   that row of the first operand and that column of the second. -/
module

public import proofs.«01_k».proof.Proof.Gen.KernelIdeal.Value
public import proofs.«01_k».proof.Proof.Requant
public import proofs.«01_k».proof.Proof.Acc
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen Gemm

/-- What one trip of the row loop stores: the requantised tile of 128 rows, from the two halves of the rows. -/
def tile (v14 v15 : Vec Ideal S512x512 .bf16) (v30 v32 : IVec S1x512 32) (v33 : Vec Ideal S1x512 .i32) (v35 : Elt Ideal .i32)
    (v40 v43 : Vec Ideal S128x512 .bf16) : IVec S128x512 8 :=
  k0_pay2 (k0_pay15 (F := Ideal) (k0_pay1 v33) v35 (k0_pay4 v14 v15 v30 v40 v43) (k0_pay6 v14 v15 v30 v40 v43)
    (k0_pay11 v14 v15 v30 v32 v40 v43) (k0_pay12 v14 v15 v30 v32 v40 v43) (k0_pay13 v14 v15 v30 v32 v40 v43)
    (k0_pay14 v14 v15 v30 v32 v40 v43) 16#32) k0_pay16

/-- The accumulator tile at a row and a column: two converted dot products and the column's constant. -/
theorem pay3_at (v14 v15 : Vec Ideal S512x512 .bf16) (v30 : IVec S1x512 32)
    (v40 v43 : Vec Ideal S128x512 .bf16) (p : Fin 128) (q : Fin 512) :
    k0_pay3 (F := Ideal) v14 v15 v30 v40 v43 (ix2 p q)
      = IntOp.addi (IntOp.addi (Ideal.fptosi 32 (∑ k : Fin 512, (show EReal from v40 (ix2 p k)) * (show EReal from v14 (ix2 k q))))
          (Ideal.fptosi 32 (∑ k : Fin 512, (show EReal from v43 (ix2 p k)) * (show EReal from v15 (ix2 k q))))) (v30 (ix2 0 q)) := by
  pointwise [k0_pay3]
  rfl

/-- The stored byte at a row and a column: the requantised accumulator. -/
theorem tile_at (v14 v15 : Vec Ideal S512x512 .bf16) (v30 v32 : IVec S1x512 32) (v33 : Vec Ideal S1x512 .i32) (v35 : Elt Ideal .i32)
    (v40 v43 : Vec Ideal S128x512 .bf16) (p : Fin 128) (q : Fin 512) :
    tile v14 v15 v30 v32 v33 v35 v40 v43 (ix2 p q)
      = requantK (k0_pay3 (F := Ideal) v14 v15 v30 v40 v43 (ix2 p q)) (v32 (ix2 0 q)) (v33 (ix2 0 q)) v35 := by
  pointwise [tile, k0_pay1, k0_pay2, k0_pay4, k0_pay5, k0_pay6, k0_pay7, k0_pay8, k0_pay9, k0_pay10, k0_pay11, k0_pay12,
    k0_pay13, k0_pay14, k0_pay15, k0_pay16]
  generalize k0_pay3 (F := Ideal) v14 v15 v30 v40 v43 (ix2 p q) = acc
  rfl

/-- The column's constant: the bias and the correction for the first operand's zero point. -/
theorem pay20_at (v14 v15 : Vec Ideal S512x512 .bf16) (v16 v18 : Vec Ideal S16x512 .bf16) (v24 : Vec Ideal S1x512 .i32)
    (v26 : Elt Ideal .i32) (q : Fin 512) :
    k0_pay20 (F := Ideal) v14 v15 v16 v18 v24 v26 (ix2 0 q)
      = IntOp.addi (v24 (ix2 0 q)) (IntOp.muli (IntOp.subi 128#32 v26)
          (IntOp.addi (Ideal.fptosi 32 (∑ k : Fin 512, (show EReal from v16 (ix2 0 k)) * (show EReal from v14 (ix2 k q))))
            (Ideal.fptosi 32 (∑ k : Fin 512, (show EReal from v18 (ix2 0 k)) * (show EReal from v15 (ix2 k q)))))) := by
  pointwise [k0_pay20]
  rfl

/-- A centred weight. -/
theorem pay19_at (v3 : Vec Ideal S1x512 .i32) (v5 : Vec Ideal S1024x512 .i8) (k : Fin 1024) (q : Fin 512) :
    k0_pay19 (F := Ideal) v3 v5 (ix2 k q) = byteE (v5 (ix2 k q)) - wordE (v3 (ix2 0 q)) := by
  pointwise [k0_pay19]
  rfl

/-- A centred entry of the first operand. -/
theorem pay17_at (v5 : Vec Ideal S1536x1024 .i8) (r : Fin 1536) (k : Fin 1024) :
    k0_pay17 (F := Ideal) v5 (ix2 r k) = byteE (v5 (ix2 r k)) - Ideal.ofBits .bf16 17152#16 := by
  pointwise [k0_pay17]
  rfl

/-- The rows of ones. -/
theorem pay18_at (r : Fin 16) (k : Fin 1024) : k0_pay18 (F := Ideal) (ix2 r k) = (1 : EReal) := by
  pointwise [k0_pay18]

/-- A unit-stride rectangle of a matrix at offsets `a` and `b` reads row `a + p` and column `b + l`. -/
theorem unit_idx {R C n m : ℕ} {off : Fin 2 → ℕ} (inb : ∀ d : Fin 2, off d + (![n, m] : Fin 2 → ℕ) d ≤ (![R, C] : Fin 2 → ℕ) d) (a b : ℕ)
    (h : off = ![a, b]) (p : Fin n) (l : Fin m) (hp : a + p.1 < R) (hl : b + l.1 < C) :
    (Rect.unit (s := (⟨2, ![R, C]⟩ : Shape)) off ![n, m] inb).idx (ix2 p l : (⟨2, ![n, m]⟩ : Shape).Idx) = ix2 ⟨a + p.1, hp⟩ ⟨b + l.1, hl⟩ := by
  subst h
  funext d
  refine Fin.ext ?_
  match d with
  | 0 => exact congrArg (a + ·) (Nat.one_mul p.1)
  | 1 => exact congrArg (b + ·) (Nat.one_mul l.1)

/-- One trip of the row loop stores one tile. -/
theorem trip_eq (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .vmem S1536x1024 .i8) (harg3 : arg3.IsWhole) (arg4 : Memref sig .tc .vmem S1024x512 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1536x512 .i8) (harg9 : arg9.IsWhole) (arg10 : Memref sig .tc .vmem S1552x1024 .bf16) (harg10 : arg10.IsWhole) (arg11 : Memref sig .tc .vmem S1024x512 .bf16) (harg11 : arg11.IsWhole) (v14 : Vec Ideal S512x512 .bf16) (v15 : Vec Ideal S512x512 .bf16) (v30 : IVec S1x512 32) (v32 : IVec S1x512 32) (v33 : Vec Ideal S1x512 .i32) (v35 : Elt Ideal .i32) (X_arg10 : BufTy.Contents (Elt Ideal) arg10.view.ty) (k : Fin k0_t1_loop.trips) :
  tripL_k0_t1 (F := Ideal) 𝒱 c bd i arg1 harg1 arg2 harg2 arg3 harg3 arg4 harg4 arg5 harg5 arg6 harg6 arg7 harg7 arg8 harg8 arg9 harg9 arg10 harg10 arg11 harg11 v14 v15 v30 v32 v33 v35 X_arg10 k =
    [⟨Rect.unit (s := S1536x512) (k0_off3 k) S128x512.size (k0_off3_inb k),
      tile v14 v15 v30 v32 v33 v35
        (View.readAt (Elt Ideal) arg10.view (Rect.unit (s := S1552x1024) (k0_off1 k) S128x512.size (k0_off1_inb k)).toLoadRect X_arg10)
        (View.readAt (Elt Ideal) arg10.view (Rect.unit (s := S1552x1024) (k0_off2 k) S128x512.size (k0_off2_inb k)).toLoadRect X_arg10)⟩] := by
  unfold tripL_k0_t1 trip_k0_t1
  rfl

/-- The pieces the first `n` trips store: one per trip. -/
theorem mem_rows (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .vmem S1536x1024 .i8) (harg3 : arg3.IsWhole) (arg4 : Memref sig .tc .vmem S1024x512 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1536x512 .i8) (harg9 : arg9.IsWhole) (arg10 : Memref sig .tc .vmem S1552x1024 .bf16) (harg10 : arg10.IsWhole) (arg11 : Memref sig .tc .vmem S1024x512 .bf16) (harg11 : arg11.IsWhole) (v14 : Vec Ideal S512x512 .bf16) (v15 : Vec Ideal S512x512 .bf16) (v30 : IVec S1x512 32) (v32 : IVec S1x512 32) (v33 : Vec Ideal S1x512 .i32) (v35 : Elt Ideal .i32) (X_arg10 : BufTy.Contents (Elt Ideal) arg10.view.ty) (n : ℕ) (hn : n ≤ k0_t1_loop.trips) (pc : View.Piece (Elt Ideal) S1536x512 .i8) :
  pc ∈ pb_k0_t1 (F := Ideal) 𝒱 c bd i arg1 harg1 arg2 harg2 arg3 harg3 arg4 harg4 arg5 harg5 arg6 harg6 arg7 harg7 arg8 harg8 arg9 harg9 arg10 harg10 arg11 harg11 v14 v15 v30 v32 v33 v35 X_arg10 n ↔ ∃ k : Fin k0_t1_loop.trips, k.1 < n ∧ pc = ⟨Rect.unit (s := S1536x512) (k0_off3 k) S128x512.size (k0_off3_inb k),
      tile v14 v15 v30 v32 v33 v35
        (View.readAt (Elt Ideal) arg10.view (Rect.unit (s := S1552x1024) (k0_off1 k) S128x512.size (k0_off1_inb k)).toLoadRect X_arg10)
        (View.readAt (Elt Ideal) arg10.view (Rect.unit (s := S1552x1024) (k0_off2 k) S128x512.size (k0_off2_inb k)).toLoadRect X_arg10)⟩ := by
  induction n with
  | zero =>
    constructor
    · intro h
      rw [pb_k0_t1] at h
      exact absurd h List.not_mem_nil
    · rintro ⟨k, hk, _⟩
      exact absurd hk (Nat.not_lt_zero _)
  | succ n ih =>
    rw [pb_k0_t1_succ 𝒱 c bd i arg1 harg1 arg2 harg2 arg3 harg3 arg4 harg4 arg5 harg5 arg6 harg6 arg7 harg7 arg8 harg8 arg9 harg9 arg10 harg10 arg11 harg11 v14 v15 v30 v32 v33 v35 X_arg10 ⟨n, hn⟩, trip_eq, List.singleton_append, List.mem_cons, ih (by omega)]
    constructor
    · rintro (h | ⟨k, hk, h⟩)
      · exact ⟨⟨n, hn⟩, Nat.lt_succ_self n, h⟩
      · exact ⟨k, by omega, h⟩
    · rintro ⟨k, hk, h⟩
      by_cases e : k.1 = n
      · obtain rfl : k = ⟨n, hn⟩ := Fin.ext e
        exact Or.inl h
      · exact Or.inr ⟨k, by omega, h⟩

/-- The loop runs twelve trips. -/
theorem trips_eq : k0_t1_loop.trips = 12 := by decide +kernel

/-- The result block: at every row and column, the requantised accumulator. -/
def blockOut (x : Fin 1536 → Fin 1024 → BitVec 8) (w : Fin 1024 → Fin 512 → BitVec 8) (za : BitVec 32) (zb bias : Fin 512 → BitVec 32)
    (m₀ : IVec S1x512 32) (s : Vec Ideal S1x512 .i32) (zc : BitVec 32) : S1536x512.Idx → Elt Ideal .i8 := fun y =>
  requantK (accK (x (y 0)) (fun k => w k (y 1)) za (zb (y 1)) (bias (y 1))) (m₀ (ix2 0 (y 1))) (s (ix2 0 (y 1))) zc

/-- THE LOOP: at row `r` and column `q` of the result block, the requantised accumulator of row `r` of the first operand `x`
    and column `q` of the second operand `w`. -/
theorem rows_out (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .vmem S1536x1024 .i8) (harg3 : arg3.IsWhole) (arg4 : Memref sig .tc .vmem S1024x512 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1536x512 .i8) (harg9 : arg9.IsWhole) (arg10 : Memref sig .tc .vmem S1552x1024 .bf16) (harg10 : arg10.IsWhole) (arg11 : Memref sig .tc .vmem S1024x512 .bf16) (harg11 : arg11.IsWhole) (v14 : Vec Ideal S512x512 .bf16) (v15 : Vec Ideal S512x512 .bf16) (v30 : IVec S1x512 32) (v32 : IVec S1x512 32) (v33 : Vec Ideal S1x512 .i32) (v35 : Elt Ideal .i32) (X_arg10 : BufTy.Contents (Elt Ideal) arg10.view.ty)
    (x : Fin 1536 → Fin 1024 → BitVec 8) (w : Fin 1024 → Fin 512 → BitVec 8) (za : BitVec 32) (zb bias : Fin 512 → BitVec 32)
    (h14 : ∀ (k q : Fin 512), v14 (ix2 k q) = byteE (w (loI k) q) - wordE (zb q))
    (h15 : ∀ (k q : Fin 512), v15 (ix2 k q) = byteE (w (hiI k) q) - wordE (zb q))
    (h30 : ∀ q : Fin 512, v30 (ix2 0 q) = IntOp.addi (bias q) (IntOp.muli (IntOp.subi 128#32 za)
      (IntOp.addi (Ideal.fptosi 32 (∑ k, (1 : EReal) * (byteE (w (loI k) q) - wordE (zb q))))
        (Ideal.fptosi 32 (∑ k, (1 : EReal) * (byteE (w (hiI k) q) - wordE (zb q)))))))
    (hX : ∀ (r : Fin 1536) (k : Fin 1024), arg10.view.read (Elt Ideal) X_arg10 (ix2 ⟨r.1, by omega⟩ k)
      = byteE (x r k) - Ideal.ofBits .bf16 17152#16) (r : Fin 1536) (q : Fin 512) :
  View.canon (pb_k0_t1 (F := Ideal) 𝒱 c bd i arg1 harg1 arg2 harg2 arg3 harg3 arg4 harg4 arg5 harg5 arg6 harg6 arg7 harg7 arg8 harg8 arg9 harg9 arg10 harg10 arg11 harg11 v14 v15 v30 v32 v33 v35 X_arg10 k0_t1_loop.trips) (ix2 r q)
    = requantK (accK (x r) (fun k => w k q) za (zb q) (bias q)) (v32 (ix2 0 q)) (v33 (ix2 0 q)) v35 := by
  refine View.canon_apply_of_pieces (Val := Elt Ideal) (S := S1536x512) (e := .i8) (blockOut x w za zb bias v32 v33 v35) _ ?_ _ ?_
  · intro pc hpc
    obtain ⟨k, hk, rfl⟩ := (mem_rows 𝒱 c bd i arg1 harg1 arg2 harg2 arg3 harg3 arg4 harg4 arg5 harg5 arg6 harg6 arg7 harg7 arg8 harg8 arg9 harg9 arg10 harg10 arg11 harg11 v14 v15 v30 v32 v33 v35 X_arg10 _ le_rfl pc).1 hpc
    intro z
    obtain ⟨p, q, rfl⟩ : ∃ (p : Fin 128) (q : Fin 512), z = ix2 p q := ⟨z 0, z 1, eq_ix2 z⟩
    have hk12 : k.1 < 12 := by have := k.2; have := trips_eq; omega
    have e3 : (Rect.unit (s := S1536x512) (k0_off3 k) S128x512.size (k0_off3_inb k)).emb (ix2 p q)
        = ix2 (⟨128 * k.1 + p.1, by omega⟩ : Fin 1536) q := by
      refine (unit_idx (R := 1536) (C := 512) (n := 128) (m := 512) (k0_off3_inb k) (128 * k.1) 0 (k0_off3_eq k) p q (by omega) (by omega)).trans ?_
      exact congrArg _ (Fin.ext (Nat.zero_add _))
    have e1 : ∀ l : Fin 512, View.readAt (Elt Ideal) arg10.view (Rect.unit (s := S1552x1024) (k0_off1 k) S128x512.size (k0_off1_inb k)).toLoadRect X_arg10 (ix2 p l)
        = byteE (x ⟨128 * k.1 + p.1, by omega⟩ (loI l)) - Ideal.ofBits .bf16 17152#16 := by
      intro l
      rw [← hX]
      refine congrArg (arg10.view.read (Elt Ideal) X_arg10) ?_
      refine (unit_idx (R := 1552) (C := 1024) (n := 128) (m := 512) (k0_off1_inb k) (128 * k.1) 0 (k0_off1_eq k) p l (by omega) (by omega)).trans ?_
      exact congrArg _ (Fin.ext (Nat.zero_add _))
    have e2 : ∀ l : Fin 512, View.readAt (Elt Ideal) arg10.view (Rect.unit (s := S1552x1024) (k0_off2 k) S128x512.size (k0_off2_inb k)).toLoadRect X_arg10 (ix2 p l)
        = byteE (x ⟨128 * k.1 + p.1, by omega⟩ (hiI l)) - Ideal.ofBits .bf16 17152#16 := by
      intro l
      rw [← hX]
      exact congrArg (arg10.view.read (Elt Ideal) X_arg10)
        (unit_idx (R := 1552) (C := 1024) (n := 128) (m := 512) (k0_off2_inb k) (128 * k.1) 512 (k0_off2_eq k) p l (by omega) (by omega))
    rw [e3]
    show tile _ _ _ _ _ _ _ _ (ix2 p q) = requantK _ _ _ _
    refine (tile_at v14 v15 v30 v32 v33 v35 _ _ p q).trans ?_
    refine congrArg (fun a => requantK a (v32 (ix2 0 q)) (v33 (ix2 0 q)) v35) ?_
    refine (pay3_at v14 v15 v30 _ _ p q).trans ?_
    rw [h30 q]
    refine congrArg₂ IntOp.addi (congrArg₂ IntOp.addi ?_ ?_) rfl
    · refine congrArg (Ideal.fptosi 32) (Finset.sum_congr rfl fun l _ => ?_)
      rw [e1 l, h14 l q]
      rfl
    · refine congrArg (Ideal.fptosi 32) (Finset.sum_congr rfl fun l _ => ?_)
      rw [e2 l, h15 l q]
      rfl
  · refine ⟨_, (mem_rows 𝒱 c bd i arg1 harg1 arg2 harg2 arg3 harg3 arg4 harg4 arg5 harg5 arg6 harg6 arg7 harg7 arg8 harg8 arg9 harg9 arg10 harg10 arg11 harg11 v14 v15 v30 v32 v33 v35 X_arg10 _ le_rfl _).2 ⟨⟨r.1 / 128, by rw [trips_eq]; omega⟩, by dsimp only; rw [trips_eq]; omega, rfl⟩, ?_⟩
    rw [Rect.mem_set_unit, k0_off3_eq]
    intro d
    match d with
    | 0 => exact ⟨Nat.mul_div_le r.1 128, by show r.1 < 128 * (r.1 / 128) + 128; omega⟩
    | 1 => exact ⟨Nat.zero_le _, by show q.1 < 0 + 512; omega⟩

end Cert.KernelIdeal.Hand
end
-- ==== Proof.KernelReads.lean ====
/- What each window's block holds at a grid point, read from the kernel's argument arrays. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

/-- Every window's block index at a grid point. -/
theorem idx : ∀ t : Fin cfg0.N, win0_0.index t = ![0] ∧ win0_1.index t = ![0] ∧ win0_2.index t = ![0, 0]
    ∧ win0_3.index t = ![0, t.val] ∧ win0_4.index t = ![0, t.val] ∧ win0_5.index t = ![0, t.val]
    ∧ win0_6.index t = ![0, t.val] ∧ win0_7.index t = ![0, t.val] := by decide +kernel

/-- The number of grid points. -/
theorem points : cfg0.N = 11 := by decide +kernel

/-- The column of the array that column `q` of point `t`'s block is. -/
def colOf (t : Fin cfg0.N) (q : Fin 512) : Fin 5632 := ⟨512 * t.val + q.val, by have := t.2; have := points; omega⟩

theorem blk2 (c : Dev nD) (t : Fin cfg0.N) (r : Fin 1536) (k : Fin 1024) :
    iblk m c 2 t (ix2 r k) = m ((c : Thread nD τ).loc main_arg0) (ix3 ⟨r.1 / 384, by omega⟩ ⟨r.1 % 384, by omega⟩ k) := by
  blk_ext! [iblk, V, idx t]

theorem blk3 (c : Dev nD) (t : Fin cfg0.N) (k : Fin 1024) (q : Fin 512) :
    iblk m c 3 t (ix2 k q) = m ((c : Thread nD τ).loc main_arg2) (ix2 k (colOf t q)) := by
  blk_ext! [iblk, V, idx t, colOf]

theorem blk0 (c : Dev nD) (t : Fin cfg0.N) :
    iblk m c 0 t (ix1 0) = m ((c : Thread nD τ).loc main_arg1) ix0 := by
  blk_ext! [iblk, V, idx t]

theorem blk1 (c : Dev nD) (t : Fin cfg0.N) :
    iblk m c 1 t (ix1 0) = m ((c : Thread nD τ).loc main_arg7) ix0 := by
  blk_ext! [iblk, V, idx t]

theorem blk4 (c : Dev nD) (t : Fin cfg0.N) (q : Fin 512) :
    iblk m c 4 t (ix2 0 q) = m ((c : Thread nD τ).loc main_arg3) (ix1 (colOf t q)) := by
  blk_ext! [iblk, V, idx t, colOf]

theorem blk5 (c : Dev nD) (t : Fin cfg0.N) (q : Fin 512) :
    iblk m c 5 t (ix2 0 q) = m ((c : Thread nD τ).loc main_arg4) (ix1 (colOf t q)) := by
  blk_ext! [iblk, V, idx t, colOf]

theorem blk6 (c : Dev nD) (t : Fin cfg0.N) (q : Fin 512) :
    iblk m c 6 t (ix2 0 q) = m ((c : Thread nD τ).loc main_arg5) (ix1 (colOf t q)) := by
  blk_ext! [iblk, V, idx t, colOf]

theorem blk7 (c : Dev nD) (t : Fin cfg0.N) (q : Fin 512) :
    iblk m c 7 t (ix2 0 q) = m ((c : Thread nD τ).loc main_arg6) (ix1 (colOf t q)) := by
  blk_ext! [iblk, V, idx t, colOf]

end Cert.KernelIdeal.Hand
end
-- ==== Proof.KernelPoint.lean ====
/- What one grid point leaves: the scratch holds the centred first operand and sixteen rows of ones at every point, and the
   result block holds the requantised accumulators of the point's columns. -/
module

public import proofs.«01_k».proof.Proof.KernelBlock
public import proofs.«01_k».proof.Proof.KernelReads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Gemm

variable (m : (ℓ : Loc nD τ sig) → Buf (Elt Ideal) ℓ)

/-- The scratch contents from a block of the first operand: the centred rows, then sixteen rows of ones. -/
def scratch (x : S1536x1024.Idx → BitVec 8) : S1552x1024.Idx → EReal := fun y =>
  if h : (y 0).1 < 1536 then byteE (x (ix2 ⟨(y 0).1, h⟩ (y 1))) - Ideal.ofBits .bf16 17152#16 else 1

/-- A row of the scratch below 1536 is a centred row. -/
theorem scratch_lo (x : S1536x1024.Idx → BitVec 8) (r : Fin 1552) (k : Fin 1024) (h : r.1 < 1536) :
    scratch x (ix2 r k) = byteE (x (ix2 ⟨r.1, h⟩ k)) - Ideal.ofBits .bf16 17152#16 := by
  unfold scratch
  exact dif_pos h

/-- The other rows are ones. -/
theorem scratch_hi (x : S1536x1024.Idx → BitVec 8) (r : Fin 1552) (k : Fin 1024) (h : ¬ r.1 < 1536) :
    scratch x (ix2 r k) = 1 := by
  unfold scratch
  exact dif_neg h

/-- The two stores of the first point's body leave the scratch contents. -/
theorem scratch_canon (x : Vec Ideal S1536x1024 .i8) (y : S1552x1024.Idx) :
    View.canon (Val := Elt Ideal) (s := S1552x1024) (e := .bf16)
      [⟨Rect.unit (s := S1552x1024) ![1536, 0] ![16, 1024] inb_S1552x1024_S16x1024_1536_0, k0_pay18 (F := Ideal)⟩,
        ⟨Rect.unit (s := S1552x1024) ![0, 0] ![1536, 1024] inb_S1552x1024_S1536x1024_0_0, k0_pay17 (F := Ideal) x⟩] y
      = scratch x y := by
  refine View.canon_apply_of_pieces (Val := Elt Ideal) (S := S1552x1024) (e := .bf16) (scratch x) _ ?_ _ ?_
  · intro pc hpc z
    simp only [List.mem_cons, List.not_mem_nil, or_false] at hpc
    rcases hpc with rfl | rfl
    · obtain ⟨p, q, rfl⟩ : ∃ (p : Fin 16) (q : Fin 1024), z = ix2 p q := ⟨z 0, z 1, eq_ix2 z⟩
      refine (pay18_at p q).trans ?_
      refine Eq.trans ?_ (congrArg (scratch x) (unit_idx (R := 1552) (C := 1024) (n := 16) (m := 1024)
        inb_S1552x1024_S16x1024_1536_0 1536 0 rfl p q (by omega) (by omega)).symm)
      exact (scratch_hi x _ _ (by show ¬ (1536 + p.1 < 1536); omega)).symm
    · obtain ⟨p, q, rfl⟩ : ∃ (p : Fin 1536) (q : Fin 1024), z = ix2 p q := ⟨z 0, z 1, eq_ix2 z⟩
      refine (pay17_at x p q).trans ?_
      refine Eq.trans ?_ (congrArg (scratch x) (unit_idx (R := 1552) (C := 1024) (n := 1536) (m := 1024)
        inb_S1552x1024_S1536x1024_0_0 0 0 rfl p q (by omega) (by omega)).symm)
      refine Eq.trans ?_ (scratch_lo x _ _ (by show 0 + p.1 < 1536; omega)).symm
      have e : (ix2 ⟨0 + p.1, by omega⟩ ⟨0 + q.1, by omega⟩ : S1536x1024.Idx) = ix2 p q :=
        (ix2_inj ..).2 ⟨Fin.ext (Nat.zero_add _), Fin.ext (Nat.zero_add _)⟩
      exact congrArg (fun j => byteE (x j) - Ideal.ofBits .bf16 17152#16) e.symm
  · by_cases h : (y 0).1 < 1536
    · refine ⟨_, List.mem_cons_of_mem _ (List.mem_singleton_self _), ?_⟩
      rw [Rect.mem_set_unit]
      intro d
      match d with
      | 0 => exact ⟨Nat.zero_le _, by show (y 0).1 < 0 + 1536; omega⟩
      | 1 => exact ⟨Nat.zero_le _, by show (y 1).1 < 0 + 1024; have := (y 1).2; exact lt_of_lt_of_eq this (Nat.zero_add _).symm⟩
    · refine ⟨_, List.mem_cons_self, ?_⟩
      rw [Rect.mem_set_unit]
      intro d
      match d with
      | 0 => exact ⟨by show 1536 ≤ (y 0).1; omega, (y 0).2⟩
      | 1 => exact ⟨Nat.zero_le _, by show (y 1).1 < 0 + 1024; have := (y 1).2; exact lt_of_lt_of_eq this (Nat.zero_add _).symm⟩

/-- The block of the first operand is the same at every point. -/
theorem blk2_const (c : Dev nD) (t t' : Fin cfg0.N) : iblk m c 2 t = iblk m c 2 t' := by
  funext y
  obtain ⟨r, k, rfl⟩ : ∃ (r : Fin 1536) (k : Fin 1024), y = ix2 r k := ⟨y 0, y 1, eq_ix2 y⟩
  exact (blk2 m c t r k).trans (blk2 m c t' r k).symm

/-- Every point leaves the scratch holding the centred first operand and the rows of ones. -/
theorem scratch_at (c : Dev nD) : ∀ (n : ℕ) (hn : n < cfg0.N),
    (outsAt0 m c n hn).2 = scratch (iblk m c 2 ⟨n, hn⟩) := by
  intro n
  induction n with
  | zero =>
    intro hn
    rw [outsAt0_A m c ⟨0, hn⟩ rfl]
    dsimp only
    frame_out
    funext y
    exact scratch_canon _ y
  | succ n ih =>
    intro hn
    by_cases h0 : (n + 1) % 11 = 0
    · rw [outsAt0_A m c ⟨n + 1, hn⟩ h0]
      dsimp only
      frame_out
      funext y
      exact scratch_canon _ y
    · rw [outsAt0_B m c ⟨n + 1, hn⟩ h0]
      dsimp only
      exact (ih (by omega)).trans (congrArg (scratch ·) (blk2_const m c _ _))

/-- Row `r` of the flattened first operand. -/
def rowX (c : Dev nD) (r : Fin 1536) (k : Fin 1024) : BitVec 8 :=
  m ((c : Thread nD τ).loc main_arg0) (ix3 ⟨r.1 / 384, by omega⟩ ⟨r.1 % 384, by omega⟩ k)

/-- The byte the kernel leaves at row `r` and column `j` of its result. -/
def outAt (c : Dev nD) (r : Fin 1536) (j : Fin 5632) : BitVec 8 :=
  requantK
    (accK (rowX m c r) (fun k => m ((c : Thread nD τ).loc main_arg2) (ix2 k j)) (m ((c : Thread nD τ).loc main_arg1) ix0)
      (m ((c : Thread nD τ).loc main_arg3) (ix1 j)) (m ((c : Thread nD τ).loc main_arg4) (ix1 j)))
    (m ((c : Thread nD τ).loc main_arg5) (ix1 j)) (m ((c : Thread nD τ).loc main_arg6) (ix1 j))
    (m ((c : Thread nD τ).loc main_arg7) ix0)

/-- A half of the second operand's scratch, read back: the centred weights. -/
theorem half_at (v3 : Vec Ideal S1x512 .i32) (v5 : Vec Ideal S1024x512 .i8) (o : ℕ) (ho : o ≤ 512)
    (inb : ∀ a, (![o, 0] : Fin 2 → ℕ) a + S512x512.size a ≤ S1024x512.size a) (k q : Fin 512) :
    (View.whole cc0_scratch1).readCov (Val := Elt Ideal)
      [⟨Rect.unit (s := S1024x512) ![0, 0] ![1024, 512] inb_S1024x512_S1024x512_0_0, k0_pay19 (F := Ideal) v3 v5⟩]
      (Rect.unit (s := S1024x512) ![o, 0] ![512, 512] inb).toLoadRect (ix2 k q)
      = byteE (v5 (ix2 ⟨o + k.1, by omega⟩ q)) - wordE (v3 (ix2 0 q)) := by
  rw [View.readCov_eq_canon']
  refine (congrFun (View.canon_unit_zero (Val := Elt Ideal) (S := S1024x512) (by funext a; match a with | 0 => rfl | 1 => rfl) inb_S1024x512_S1024x512_0_0 _) _).trans ?_
  refine (congrArg (k0_pay19 (F := Ideal) v3 v5) (unit_idx (R := 1024) (C := 512) (n := 512) (m := 512) inb o 0 rfl k q (by omega) (by omega))).trans ?_
  refine (congrArg (fun j => k0_pay19 (F := Ideal) v3 v5 (ix2 ⟨o + k.1, by omega⟩ j)) (Fin.ext (Nat.zero_add q.1) : (⟨0 + q.1, by omega⟩ : Fin 512) = q)).trans ?_
  exact pay19_at v3 v5 _ q

/-- The rows of ones at the first point, read back from the two stores. -/
theorem ones_A (x : Vec Ideal S1536x1024 .i8) (o : ℕ) (ho : o ≤ 512)
    (inb : ∀ a, (![1536, o] : Fin 2 → ℕ) a + S16x512.size a ≤ S1552x1024.size a) (p : Fin 16) (k : Fin 512) :
    (View.whole cc0_scratch0).readCov (Val := Elt Ideal)
      [⟨Rect.unit (s := S1552x1024) ![1536, 0] ![16, 1024] inb_S1552x1024_S16x1024_1536_0, k0_pay18 (F := Ideal)⟩,
        ⟨Rect.unit (s := S1552x1024) ![0, 0] ![1536, 1024] inb_S1552x1024_S1536x1024_0_0, k0_pay17 (F := Ideal) x⟩]
      (Rect.unit (s := S1552x1024) ![1536, o] ![16, 512] inb).toLoadRect (ix2 p k) = (1 : EReal) := by
  rw [View.readCov_eq_canon']
  refine (scratch_canon x _).trans ?_
  refine (congrArg (scratch x) (unit_idx (R := 1552) (C := 1024) (n := 16) (m := 512) inb 1536 o rfl p k (by omega) (by omega))).trans ?_
  exact scratch_hi x _ _ (by show ¬ (1536 + p.1 < 1536); omega)

/-- The only index of a one-element vector. -/
theorem idx_one (y : S1.Idx) : y = ix1 0 := by
  idx_vars y
  exact congrArg _ (Subsingleton.elim _ _)

/-- The multiplier row is stored as loaded. -/
theorem pay21_at (v : Vec Ideal S1x512 .i32) (q : Fin 512) : k0_pay21 (F := Ideal) v (ix2 0 q) = v (ix2 0 q) := by
  pointwise [k0_pay21]

/-- The column's constant at a point, for any loads of the two runs of ones. -/
theorem col_at (c : Dev nD) (t : Fin cfg0.N) (v14 v15 : Vec Ideal S512x512 .bf16) (v16 v18 : Vec Ideal S16x512 .bf16) (z : S1.Idx)
    (h14 : ∀ (k q : Fin 512), v14 (ix2 k q) = byteE (m ((c : Thread nD τ).loc main_arg2) (ix2 (loI k) (colOf t q)))
      - wordE (m ((c : Thread nD τ).loc main_arg3) (ix1 (colOf t q))))
    (h15 : ∀ (k q : Fin 512), v15 (ix2 k q) = byteE (m ((c : Thread nD τ).loc main_arg2) (ix2 (hiI k) (colOf t q)))
      - wordE (m ((c : Thread nD τ).loc main_arg3) (ix1 (colOf t q))))
    (h16 : ∀ k : Fin 512, v16 (ix2 0 k) = (1 : EReal)) (h18 : ∀ k : Fin 512, v18 (ix2 0 k) = (1 : EReal)) (q : Fin 512) :
    k0_pay20 (F := Ideal) v14 v15 v16 v18 (iblk m c 5 t) (iblk m c 0 t z) (ix2 0 q)
      = IntOp.addi (m ((c : Thread nD τ).loc main_arg4) (ix1 (colOf t q)))
        (IntOp.muli (IntOp.subi 128#32 (m ((c : Thread nD τ).loc main_arg1) ix0))
          (IntOp.addi (Ideal.fptosi 32 (∑ k, (1 : EReal) * (byteE (m ((c : Thread nD τ).loc main_arg2) (ix2 (loI k) (colOf t q)))
              - wordE (m ((c : Thread nD τ).loc main_arg3) (ix1 (colOf t q))))))
            (Ideal.fptosi 32 (∑ k, (1 : EReal) * (byteE (m ((c : Thread nD τ).loc main_arg2) (ix2 (hiI k) (colOf t q)))
              - wordE (m ((c : Thread nD τ).loc main_arg3) (ix1 (colOf t q)))))))) := by
  refine (pay20_at v14 v15 v16 v18 (iblk m c 5 t) (iblk m c 0 t z) q).trans ?_
  rw [idx_one z]
  refine congrArg₂ IntOp.addi (blk5 m c t q) (congrArg₂ IntOp.muli (congrArg (IntOp.subi 128#32) (blk0 m c t)) (congrArg₂ IntOp.addi ?_ ?_))
  · refine congrArg (Ideal.fptosi 32) (Finset.sum_congr rfl fun k _ => ?_)
    rw [h14 k q, h16 k]
  · refine congrArg (Ideal.fptosi 32) (Finset.sum_congr rfl fun k _ => ?_)
    rw [h15 k q, h18 k]

/-- The lower half of the centred weights of a point, in the argument arrays. -/
theorem lo_at (c : Dev nD) (t : Fin cfg0.N) (k q : Fin 512) :
    byteE (iblk m c 3 t (ix2 ⟨0 + k.1, by omega⟩ q)) - wordE (iblk m c 4 t (ix2 0 q))
      = byteE (m ((c : Thread nD τ).loc main_arg2) (ix2 (loI k) (colOf t q))) - wordE (m ((c : Thread nD τ).loc main_arg3) (ix1 (colOf t q))) := by
  have e : (⟨0 + k.1, by omega⟩ : Fin 1024) = loI k := Fin.ext (Nat.zero_add _)
  exact congrArg₂ (fun a b => byteE a - wordE b) ((congrArg (fun j => iblk m c 3 t (ix2 j q)) e).trans (blk3 m c t (loI k) q)) (blk4 m c t q)

/-- The upper half. -/
theorem hi_at (c : Dev nD) (t : Fin cfg0.N) (k q : Fin 512) :
    byteE (iblk m c 3 t (ix2 ⟨512 + k.1, by omega⟩ q)) - wordE (iblk m c 4 t (ix2 0 q))
      = byteE (m ((c : Thread nD τ).loc main_arg2) (ix2 (hiI k) (colOf t q))) - wordE (m ((c : Thread nD τ).loc main_arg3) (ix1 (colOf t q))) :=
  congrArg₂ (fun a b => byteE a - wordE b) (blk3 m c t (hiI k) q) (blk4 m c t q)

/-- A centred row of a point's scratch, in the argument arrays. -/
theorem row_at (c : Dev nD) (t : Fin cfg0.N) (r : Fin 1536) (k : Fin 1024) :
    scratch (iblk m c 2 t) (ix2 ⟨r.1, by omega⟩ k) = byteE (rowX m c r k) - Ideal.ofBits .bf16 17152#16 :=
  (scratch_lo _ _ _ r.2).trans (congrArg (fun a => byteE a - Ideal.ofBits .bf16 17152#16) (blk2 m c t r k))

/-- The multiplier, the shift and the output zero point of a column, in the argument arrays. -/
theorem requant_at (c : Dev nD) (t : Fin cfg0.N) (a : BitVec 32) (q : Fin 512) (z : S1.Idx) :
    requantK a (k0_pay21 (F := Ideal) (iblk m c 6 t) (ix2 0 q)) (iblk m c 7 t (ix2 0 q)) (iblk m c 1 t z)
      = requantK a (m ((c : Thread nD τ).loc main_arg5) (ix1 (colOf t q))) (m ((c : Thread nD τ).loc main_arg6) (ix1 (colOf t q)))
        (m ((c : Thread nD τ).loc main_arg7) ix0) := by
  rw [idx_one z]
  refine (congrArg (fun b => requantK a b (iblk m c 7 t (ix2 0 q)) (iblk m c 1 t (ix1 0))) ((pay21_at (iblk m c 6 t) q).trans (blk6 m c t q))).trans ?_
  refine (congrArg (fun b => requantK a _ b (iblk m c 1 t (ix1 0))) (blk7 m c t q)).trans ?_
  exact congrArg (fun b => requantK a _ _ b) (blk1 m c t)

/-- THE POINT: at row `r` and column `q` of point `t`'s block, the byte of the result there. -/
theorem out_at (c : Dev nD) (t : Fin cfg0.N) (r : Fin 1536) (q : Fin 512) :
    (outsAt0 m c t.1 t.2).1 (ix2 r q) = outAt m c r (colOf t q) := by
  by_cases h0 : t.1 % 11 = 0
  · rw [outsAt0_A m c t h0]
    dsimp only
    frame_out
    refine (rows_out _ _ _ _ _ _ _ _ _ _ _ _ _ _ _ _ _ _ _ _ _ _ _ _ _ _ _ _ _ _ _ _ _ (rowX m c) (fun k j => m ((c : Thread nD τ).loc main_arg2) (ix2 k (colOf t j)))
      (m ((c : Thread nD τ).loc main_arg1) ix0) (fun j => m ((c : Thread nD τ).loc main_arg3) (ix1 (colOf t j)))
      (fun j => m ((c : Thread nD τ).loc main_arg4) (ix1 (colOf t j))) ?_ ?_ ?_ ?_ r q).trans ?_
    · exact fun k q => (half_at _ _ 0 (by omega) _ k q).trans (lo_at m c t k q)
    · exact fun k q => (half_at _ _ 512 (by omega) _ k q).trans (hi_at m c t k q)
    · refine fun q => col_at m c t _ _ _ _ _ ?_ ?_ ?_ ?_ q
      · exact fun k q => (half_at _ _ 0 (by omega) _ k q).trans (lo_at m c t k q)
      · exact fun k q => (half_at _ _ 512 (by omega) _ k q).trans (hi_at m c t k q)
      · exact fun k => ones_A _ 0 (by omega) _ 0 k
      · exact fun k => ones_A _ 512 (by omega) _ 0 k
    · intro r k
      refine (View.read_writes_junk_apply_eq_canon _ _ _).trans ?_
      refine (scratch_canon _ _).trans ?_
      exact row_at m c t r k
    · exact requant_at m c t _ q _
  · rw [outsAt0_B m c t h0]
    dsimp only
    frame_out
    have hs : (outsAt0 m c (t.1 - 1) (by omega)).2 = scratch (iblk m c 2 t) :=
      (scratch_at m c (t.1 - 1) (by omega)).trans (congrArg scratch (blk2_const m c _ _))
    refine (rows_out _ _ _ _ _ _ _ _ _ _ _ _ _ _ _ _ _ _ _ _ _ _ _ _ _ _ _ _ _ _ _ _ _ (rowX m c) (fun k j => m ((c : Thread nD τ).loc main_arg2) (ix2 k (colOf t j)))
      (m ((c : Thread nD τ).loc main_arg1) ix0) (fun j => m ((c : Thread nD τ).loc main_arg3) (ix1 (colOf t j)))
      (fun j => m ((c : Thread nD τ).loc main_arg4) (ix1 (colOf t j))) ?_ ?_ ?_ ?_ r q).trans ?_
    · exact fun k q => (half_at _ _ 0 (by omega) _ k q).trans (lo_at m c t k q)
    · exact fun k q => (half_at _ _ 512 (by omega) _ k q).trans (hi_at m c t k q)
    · refine fun q => col_at m c t _ _ _ _ _ ?_ ?_ ?_ ?_ q
      · exact fun k q => (half_at _ _ 0 (by omega) _ k q).trans (lo_at m c t k q)
      · exact fun k q => (half_at _ _ 512 (by omega) _ k q).trans (hi_at m c t k q)
      · intro k
        refine (congrFun (Memref.IsWhole.read_unread _ _) _).trans ?_
        refine (congrFun hs _).trans ?_
        refine (congrArg (scratch _) (unit_idx (R := 1552) (C := 1024) (n := 16) (m := 512) _ 1536 0 rfl 0 k (by omega) (by omega))).trans ?_
        exact scratch_hi _ _ _ (by decide)
      · intro k
        refine (congrFun (Memref.IsWhole.read_unread _ _) _).trans ?_
        refine (congrFun hs _).trans ?_
        refine (congrArg (scratch _) (unit_idx (R := 1552) (C := 1024) (n := 16) (m := 512) _ 1536 512 rfl 0 k (by omega) (by omega))).trans ?_
        exact scratch_hi _ _ _ (by decide)
    · intro r k
      refine (congrFun (Memref.IsWhole.read_unread _ _) _).trans ?_
      exact (congrFun hs _).trans (row_at m c t r k)
    · exact requant_at m c t _ q _

end Cert.KernelIdeal.Hand
end
-- ==== Proof.KernelValue.lean ====
/- The kernel's whole result array, from what each grid point leaves in its block. -/
module

public import proofs.«01_k».proof.Proof.KernelPoint

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

/-- THE ARRAY after the run, at row `r` and column `j`: column `j` is written at point `j / 512`, in its column `j % 512`. -/
theorem final (c : Dev nD) (r : Fin 1536) (j : Fin 5632) :
    Cert.KernelIdeal.Value.G8 m c (ix2 r j) = outAt m c r j := by
  have hN := points
  have hp : Cert.KernelIdeal.Value.pt8Of (ix2 r j) = j.1 / 512 := by
    show 11 * (r.1 / 1536 - 0) + 1 * (j.1 / 512 - 0) = _
    omega
  have hl : Cert.KernelIdeal.Value.loc8Of (ix2 r j) = ix2 r ⟨j.1 % 512, by omega⟩ := by
    funext a
    apply Fin.ext
    match a with
    | ⟨0, _⟩ => exact Nat.mod_eq_of_lt r.2
    | ⟨1, _⟩ => rfl
  have hlt : j.1 / 512 < cfg0.N := by omega
  unfold Cert.KernelIdeal.Value.G8
  rw [dif_pos (by rw [hp]; exact hlt), hl, Cert.KernelIdeal.Value.fold0_congr m c _ _ _ (by rw [Nat.zero_add]; exact hlt) hp, ← Cert.KernelIdeal.Value.outsAt0_sweep m c _ hlt]
  refine (out_at m c ⟨j.1 / 512, hlt⟩ r ⟨j.1 % 512, by omega⟩).trans ?_
  exact congrArg (outAt m c r) (Fin.ext (Nat.div_add_mod j.1 512))

end Cert.KernelIdeal.Hand
end
-- ==== Proof.RefValue.lean ====
/- The reference's result array, read at an index: the accumulator of the row and the column, requantised. -/
module

public import proofs.«01_k».proof.Proof.Gen.ReferenceIdeal.Run
public import proofs.«01_k».proof.Proof.Acc
public import proofs.«01_k».proof.Proof.Requant
public import Idealize.ShloMosaic.Lib.Pointwise
public import Idealize.ShloMosaic.Lib.Tactic.CleanTypes
public import Mathlib.Data.BitVec

@[expose] public section

set_option maxRecDepth 16384

noncomputable section

open Idealize.ShloMosaic Idealize.ShloMosaic.TcCoe Idealize.SL.Sem Gemm

namespace Cert.ReferenceIdeal.Hand

open Cert.ReferenceIdeal Cert.ReferenceIdeal.Gen Cert.ReferenceIdeal.Value

/-- A reduction by 32-bit addition from zero is the sum. -/
theorem fold_addi {n : ℕ} (f : Fin n → BitVec 32) : Finset.univ.fold IntOp.addi 0#32 f = ∑ k, f k := by
  rfl

variable (V0 : Valuation τ sig (Elt Ideal))

/-- The reference's accumulator at batch `a`, row `b` of it and column `j`. -/
theorem acc_at (a : Fin 4) (b : Fin 384) (j : Fin 5632) :
    (res_main_v29 V0 : Vec Ideal S4x384x5632 .i32) (ix3 a b j)
      = acc (fun k => (V0 (Proc.devRef .tc main_arg0) : Vec Ideal S4x384x1024 .i8) (ix3 a b k))
        (fun k => (V0 (Proc.devRef .tc main_arg2) : Vec Ideal S1024x5632 .i8) (ix2 k j))
        ((V0 (Proc.devRef .tc main_arg1) : Vec Ideal S_ .i32) ix0)
        ((V0 (Proc.devRef .tc main_arg3) : Vec Ideal S5632 .i32) (ix1 j))
        ((V0 (Proc.devRef .tc main_arg4) : Vec Ideal S5632 .i32) (ix1 j)) := by
  unfold res_main_v29 res_main_v0 res_main_v1
  clean_types
  pointwise
  simp only [fold_addi]
  rfl

/-- The requantised bytes, before the rows of the batches are numbered together. -/
def bytes : Vec Ideal S4x384x5632 .i8 :=
  trunci 8 (minsi (broadcastInDim S4x384x5632 ![] bcast_S_S4x384x5632 (id (constantI S_ 32 255#32))) (maxsi (broadcastInDim S4x384x5632 ![] bcast_S_S4x384x5632 (id (constantI S_ 32 0#32))) (addi (addi (Host.shrsi (res_main_v86 V0) (broadcastInDim S4x384x5632 ![0, 1, 2] bcast_S1x1x5632_S4x384x5632_0_1_2 (broadcastInDim S1x1x5632 ![2] bcast_S5632_S1x1x5632_2 (V0 (Proc.devRef .tc main_arg6))))) (extui 32 (cmpi .sgt (andi (res_main_v86 V0) (broadcastInDim S4x384x5632 ![0, 1, 2] bcast_S1x1x5632_S4x384x5632_0_1_2 (broadcastInDim S1x1x5632 ![2] bcast_S5632_S1x1x5632_2 (res_main_v90 V0)))) (addi (broadcastInDim S4x384x5632 ![0, 1, 2] bcast_S1x1x5632_S4x384x5632_0_1_2 (broadcastInDim S1x1x5632 ![2] bcast_S5632_S1x1x5632_2 (Host.shrsi (res_main_v90 V0) (broadcastInDim S5632 ![] bcast_S_S5632 (constantI S_ 32 1#32))))) (extui 32 (cmpi .slt (res_main_v86 V0) (broadcastInDim S4x384x5632 ![] bcast_S_S4x384x5632 (constantI S_ 32 0#32))) natLt_1_32))) natLt_1_32)) (broadcastInDim S4x384x5632 ![] bcast_S_S4x384x5632 (V0 (Proc.devRef .tc main_arg7)))))) natLt_8_32

/-- One requantised byte, from the accumulator it is made of. -/
theorem bytes_at (a : Fin 4) (b : Fin 384) (j : Fin 5632) :
    bytes V0 (ix3 a b j)
      = requant ((res_main_v29 V0 : Vec Ideal S4x384x5632 .i32) (ix3 a b j))
        ((V0 (Proc.devRef .tc main_arg5) : Vec Ideal S5632 .i32) (ix1 j))
        ((V0 (Proc.devRef .tc main_arg6) : Vec Ideal S5632 .i32) (ix1 j))
        ((V0 (Proc.devRef .tc main_arg7) : Vec Ideal S_ .i32) ix0) := by
  unfold bytes res_main_v86 res_main_v90 res_main_v84 res_main_v75 res_main_v68 res_main_v61 res_main_v53 res_main_v46 res_main_v43 res_main_v41
    res_main_v39 res_main_v37 res_main_v34 res_main_v33 res_main_v31
  clean_types
  simp only [id_eq]
  pointwise
  rfl

/-- THE REFERENCE at row `r` and column `j`: row `r` is row `r % 384` of batch `r / 384`. -/
theorem result_at (r : Fin 1536) (j : Fin 5632) :
    shapeCast S1536x5632 (bytes V0) shapeCasts_S4x384x5632_S1536x5632 (ix2 r j)
      = requant
        (acc (fun k => (V0 (Proc.devRef .tc main_arg0) : Vec Ideal S4x384x1024 .i8) (ix3 ⟨r.1 / 384, by omega⟩ ⟨r.1 % 384, by omega⟩ k))
          (fun k => (V0 (Proc.devRef .tc main_arg2) : Vec Ideal S1024x5632 .i8) (ix2 k j))
          ((V0 (Proc.devRef .tc main_arg1) : Vec Ideal S_ .i32) ix0)
          ((V0 (Proc.devRef .tc main_arg3) : Vec Ideal S5632 .i32) (ix1 j))
          ((V0 (Proc.devRef .tc main_arg4) : Vec Ideal S5632 .i32) (ix1 j)))
        ((V0 (Proc.devRef .tc main_arg5) : Vec Ideal S5632 .i32) (ix1 j))
        ((V0 (Proc.devRef .tc main_arg6) : Vec Ideal S5632 .i32) (ix1 j))
        ((V0 (Proc.devRef .tc main_arg7) : Vec Ideal S_ .i32) ix0) := by
  have e : shapeCast S1536x5632 (bytes V0) shapeCasts_S4x384x5632_S1536x5632 (ix2 r j)
      = bytes V0 (ix3 ⟨r.1 / 384, by omega⟩ ⟨r.1 % 384, by omega⟩ j) := by
    generalize bytes V0 = v
    pointwise
  rw [e, bytes_at, acc_at]

end Cert.ReferenceIdeal.Hand
end
-- ==== Proof.Algebraic.lean ====
/- The kernel's result and the reference's are the same bytes, for weight zero points in the stated range. -/
module

public import proofs.«01_k».proof.Proof.KernelValue
public import proofs.«01_k».proof.Proof.RefValue
public import proofs.«01_k».proof.Defs
public import Idealize.ShloMosaic.Lib.Claim

@[expose] public section

set_option maxRecDepth 16384

noncomputable section

open Idealize.ShloMosaic Idealize.ShloMosaic.TcCoe Idealize.SL.Sem Gemm

namespace Cert.Proof

/-- A one-bit conjunction of two comparisons that is one makes both hold. -/
theorem range_of_bits (z : BitVec 32)
    (h : IntOp.andi (IntOp.cmpi .sge z 4294934783#32) (IntOp.cmpi .sle z 32767#32) = 1#1) :
    -32513 ≤ z.toInt ∧ z.toInt ≤ 32767 := by
  change BitVec.ofBool (BitVec.sle 4294934783#32 z) &&& BitVec.ofBool (BitVec.sle z 32767#32) = 1#1 at h
  have h1 : BitVec.sle 4294934783#32 z = true := by
    cases e : BitVec.sle 4294934783#32 z
    · rw [e] at h
      cases e' : BitVec.sle z 32767#32 <;> rw [e'] at h <;> exact absurd h (by decide)
    · rfl
  have h2 : BitVec.sle z 32767#32 = true := by
    cases e : BitVec.sle z 32767#32
    · rw [e, h1] at h
      exact absurd h (by decide)
    · rfl
  rw [BitVec.sle_iff_toInt_le] at h1 h2
  exact ⟨h1, h2⟩

/-- The precondition's one shape fact: a scalar broadcasts to every column. -/
theorem pre_facts : Cert.Pre_weight_zero_points_fit.Facts := ⟨by decide⟩

/-- The precondition, read at a column: its weight zero point is in the range. -/
theorem pre_at [Cert.Pre_weight_zero_points_fit.Facts] (m : (ℓ : Loc Cert.KernelIdeal.nD Cert.KernelIdeal.τ Cert.KernelIdeal.sig) → Buf (Elt Ideal) ℓ)
    (h : Cert.Pre_KernelIdeal_weight_zero_points_fit m) (c : Dev Cert.KernelIdeal.nD) (j : Fin 5632) :
    -32513 ≤ (m ((c.tc : Thread Cert.KernelIdeal.nD Cert.KernelIdeal.τ).loc Cert.KernelIdeal.main_arg3) (ix1 j) : BitVec 32).toInt
      ∧ (m ((c.tc : Thread Cert.KernelIdeal.nD Cert.KernelIdeal.τ).loc Cert.KernelIdeal.main_arg3) (ix1 j) : BitVec 32).toInt ≤ 32767 := by
  have e := congrFun (h c) (ix1 j)
  exact range_of_bits _ e

/-- THE VALUE CLAIM: from equal arguments with the weight zero points in range, the two programs end with the same bytes. -/
theorem algebraic [Cert.Pre_weight_zero_points_fit.Facts] :
    Cert.algebraic_KernelIdeal_ReferenceIdeal_pre_weight_zero_points_fit (hKernelIdeal := Cert.KernelIdeal.Gen.facts) (hReferenceIdeal := Cert.ReferenceIdeal.Gen.facts) := by
  intro m g m' g' hpre hag
  refine ⟨fun c => Cert.KernelIdeal.Value.G8 m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6, a7⟩ := hag c
  funext y
  idx_vars y
  obtain ⟨hlo, hhi⟩ := pre_at m hpre c y1
  refine (Cert.ReferenceIdeal.Hand.result_at (StableHlo.launchContents m' c) y0 y1).trans ?_
  refine Eq.trans ?_ (Cert.KernelIdeal.Hand.final m c y0 y1).symm
  unfold Cert.KernelIdeal.Hand.outAt
  rw [requantK_eq, accK_eq _ _ _ _ _ hlo hhi]
  have e0 : StableHlo.launchContents m' c (Proc.devRef .tc Cert.ReferenceIdeal.main_arg0)
      = m ((c.tc : Thread Cert.KernelIdeal.nD Cert.KernelIdeal.τ).loc Cert.KernelIdeal.main_arg0) := a0
  have e1 : StableHlo.launchContents m' c (Proc.devRef .tc Cert.ReferenceIdeal.main_arg1)
      = m ((c.tc : Thread Cert.KernelIdeal.nD Cert.KernelIdeal.τ).loc Cert.KernelIdeal.main_arg1) := a1
  have e2 : StableHlo.launchContents m' c (Proc.devRef .tc Cert.ReferenceIdeal.main_arg2)
      = m ((c.tc : Thread Cert.KernelIdeal.nD Cert.KernelIdeal.τ).loc Cert.KernelIdeal.main_arg2) := a2
  have e3 : StableHlo.launchContents m' c (Proc.devRef .tc Cert.ReferenceIdeal.main_arg3)
      = m ((c.tc : Thread Cert.KernelIdeal.nD Cert.KernelIdeal.τ).loc Cert.KernelIdeal.main_arg3) := a3
  have e4 : StableHlo.launchContents m' c (Proc.devRef .tc Cert.ReferenceIdeal.main_arg4)
      = m ((c.tc : Thread Cert.KernelIdeal.nD Cert.KernelIdeal.τ).loc Cert.KernelIdeal.main_arg4) := a4
  have e5 : StableHlo.launchContents m' c (Proc.devRef .tc Cert.ReferenceIdeal.main_arg5)
      = m ((c.tc : Thread Cert.KernelIdeal.nD Cert.KernelIdeal.τ).loc Cert.KernelIdeal.main_arg5) := a5
  have e6 : StableHlo.launchContents m' c (Proc.devRef .tc Cert.ReferenceIdeal.main_arg6)
      = m ((c.tc : Thread Cert.KernelIdeal.nD Cert.KernelIdeal.τ).loc Cert.KernelIdeal.main_arg6) := a6
  have e7 : StableHlo.launchContents m' c (Proc.devRef .tc Cert.ReferenceIdeal.main_arg7)
      = m ((c.tc : Thread Cert.KernelIdeal.nD Cert.KernelIdeal.τ).loc Cert.KernelIdeal.main_arg7) := a7
  rw [e0, e1, e2, e3, e4, e5, e6, e7]
  rfl

end Cert.Proof
end
-- ==== Proof.lean ====
/- The certificate's theorem: the frames come from the generated run modules, the value claim from Proof/Algebraic.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The claims: the two kernels run to the end with every counter at zero, the reference too, the idealized kernel is the
    kernel itself, and the idealized kernel's result is the reference's. -/
theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ),
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ),
  trivial,
  haveI := pre_facts; algebraic⟩

end Cert.Proof

end
